-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S100000x128 : Shape := ⟨2, ![100000, 128]⟩
abbrev S100000 : Shape := ⟨1, ![100000]⟩
abbrev S128x8 : Shape := ⟨2, ![128, 8]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) (main_arg2 : FVec F S128x8 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 1024#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  main_v6
-- ==== Kernel.lean ====
abbrev S100000x128 : Shape := ⟨2, ![100000, 128]⟩
abbrev S100000 : Shape := ⟨1, ![100000]⟩
abbrev S128x8 : Shape := ⟨2, ![128, 8]⟩
abbrev S1x128x1x8 : Shape := ⟨4, ![1, 128, 1, 8]⟩
abbrev S1x128x16x8 : Shape := ⟨4, ![1, 128, 16, 8]⟩
abbrev S128x128 : Shape := ⟨2, ![128, 128]⟩
abbrev S10x1x10000 : Shape := ⟨3, ![10, 1, 10000]⟩
abbrev S100000x1 : Shape := ⟨2, ![100000, 1]⟩
abbrev S64x128 : Shape := ⟨2, ![64, 128]⟩
abbrev S10000x128 : Shape := ⟨2, ![10000, 128]⟩
abbrev S1x1x10000 : Shape := ⟨3, ![1, 1, 10000]⟩
abbrev S10000x1 : Shape := ⟨2, ![10000, 1]⟩
abbrev S10000 : Shape := ⟨1, ![10000]⟩
abbrev S64x10000 : Shape := ⟨2, ![64, 10000]⟩
abbrev S1x10000 : Shape := ⟨2, ![1, 10000]⟩
abbrev S64x1 : Shape := ⟨2, ![64, 1]⟩
abbrev S64x8 : Shape := ⟨2, ![64, 8]⟩
abbrev S1024x8 : Shape := ⟨2, ![1024, 8]⟩

abbrev nBuf : Space → Nat
  | .hbm => 10
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x8, .f32⟩
  | .hbm, ⟨3, _⟩ => ⟨S1x128x1x8, .f32⟩
  | .hbm, ⟨4, _⟩ => ⟨S1x128x16x8, .f32⟩
  | .hbm, ⟨5, _⟩ => ⟨S128x128, .f32⟩
  | .hbm, ⟨6, _⟩ => ⟨S10x1x10000, .i32⟩
  | .hbm, ⟨7, _⟩ => ⟨S100000x1, .i32⟩
  | .hbm, ⟨8, _⟩ => ⟨S64x128, .f32⟩
  | .hbm, ⟨9, _⟩ => ⟨S1024x8, .f32⟩
  | .local _ .vmem, ⟨0, _⟩ => ⟨S10000x128, .f32⟩
  | .local _ .vmem, ⟨1, _⟩ => ⟨S10000x128, .f32⟩
  | .local _ .vmem, ⟨2, _⟩ => ⟨S1x1x10000, .i32⟩
  | .local _ .vmem, ⟨3, _⟩ => ⟨S1x1x10000, .i32⟩
  | .local _ .vmem, ⟨4, _⟩ => ⟨S10000x1, .i32⟩
  | .local _ .vmem, ⟨5, _⟩ => ⟨S10000x1, .i32⟩
  | .local _ .vmem, ⟨6, _⟩ => ⟨S128x128, .f32⟩
  | .local _ .vmem, ⟨7, _⟩ => ⟨S64x128, .f32⟩
  | .local _ .vmem, ⟨8, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v36 : BitVec 1 := Scalar.cmpi .eq arg0 c9_i32
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x10000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S100000x128 : Shape := ⟨2, ![100000, 128]⟩
abbrev S100000 : Shape := ⟨1, ![100000]⟩
abbrev S128x8 : Shape := ⟨2, ![128, 8]⟩
abbrev S100000x8 : Shape := ⟨2, ![100000, 8]⟩
abbrev S_ : Shape := ⟨0, ![]⟩
abbrev S1024x8 : Shape := ⟨2, ![1024, 8]⟩
abbrev S100000x1 : Shape := ⟨2, ![100000, 1]⟩
abbrev S1024x1 : Shape := ⟨2, ![1024, 1]⟩
abbrev S1024x6 : Shape := ⟨2, ![1024, 6]⟩

abbrev nBuf : Space → Nat
  | .hbm => 15
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x8, .f32⟩
  | .hbm, ⟨3, _⟩ => ⟨S100000x8, .f32⟩
  | .hbm, ⟨4, _⟩ => ⟨S_, .f32⟩
  | .hbm, ⟨5, _⟩ => ⟨S1024x8, .f32⟩
  | .hbm, ⟨6, _⟩ => ⟨S100000x1, .i32⟩
  | .hbm, ⟨7, _⟩ => ⟨S1024x8, .f32⟩
  | .hbm, ⟨8, _⟩ => ⟨S1024x1, .f32⟩
  | .hbm, ⟨9, _⟩ => ⟨S1024x1, .f32⟩
  | .hbm, ⟨10, _⟩ => ⟨S1024x6, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.Points.lean ====
/- What the kernel body leaves in its accumulator and in its output block, point by point of the grid: the accumulator
   after a point is the accumulation payload of the point's blocks over what the point before left (zero before the
   first), and the output block after the last point is the finishing payload of the accumulator. -/
module

public import proofs.«01_k».proof.Proof.Gen.KernelIdeal.Frame
public import Idealize.ShloMosaic.Lib.Pipeline.Value
public import Idealize.ShloMosaic.Lib.StableHlo.Run
public import Idealize.ShloMosaic.Lib.Tactic

@[expose] public section

noncomputable section

namespace Cert.Seg

open Cert.KernelIdeal Cert.KernelIdeal.Gen
open Idealize.ShloMosaic Idealize.ShloMosaic.TcCoe Idealize.SL.Sem
open Idealize.ShloMosaic.Pipeline (Dat)

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

section Cases

variable (c : Dev nD) (i : grid0.Coords)
  (a1 : Memref sig .tc .vmem S10000x128 .f32) (h1 : a1.IsWhole) (a2 : Memref sig .tc .vmem S1x1x10000 .i32) (h2 : a2.IsWhole)
  (a3 : Memref sig .tc .vmem S10000x1 .i32) (h3 : a3.IsWhole) (a4 : Memref sig .tc .vmem S128x128 .f32) (h4 : a4.IsWhole)
  (a5 : Memref sig .tc .vmem S64x128 .f32) (h5 : a5.IsWhole) (a6 : Memref sig .tc .vmem S64x128 .f32) (h6 : a6.IsWhole)
  (x : Vec F S10000x128 .f32) (s : Vec F S1x1x10000 .i32) (s' : Vec F S10000x1 .i32) (w : Vec F S128x128 .f32)
  (acc : Vec F S64x128 .f32)

/-- At the first point the accumulator ends at the payload over zeros. -/
theorem scratch_A (hc0 : cond0_0 i) (hc1 : ¬cond0_1 i) :
    sout0_A_0 c i a1 h1 a2 h2 a3 h3 a4 h4 a5 h5 a6 h6 hc0 hc1 x s s' w = k0_pay1 (k0_pay8 x w s s' k0_pay7) := by
  unfold sout0_A_0
  rw [View.read_writes_eq_canon _ _ _ (scover0_A_0 c i a1 h1 a2 h2 a3 h3 a4 h4 a5 h5 a6 h6 hc0 hc1 x s s' w)]
  unfold kernelRun0_A
  dsimp only
  sl_unfold_words
  rw [View.canon_cons_unit_zero (S := S64x128) off2, View.readCov_unit_zero (S := S64x128) _ off2]
  simp only [View.readAt_eq_ld, h1.read_unread, h2.read_unread, h3.read_unread, h4.read_unread,
    View.ld_unit_zero (S := S10000x128) off2, View.ld_unit_zero (S := S1x1x10000) off3,
    View.ld_unit_zero (S := S10000x1) off2, View.ld_unit_zero (S := S128x128) off2]

/-- At a middle point the accumulator ends at the payload over what it held. -/
theorem scratch_B (hc0 : ¬cond0_0 i) (hc1 : ¬cond0_1 i) :
    sout0_B_0 c i a1 h1 a2 h2 a3 h3 a4 h4 a5 h5 a6 h6 hc0 hc1 x s s' w acc = k0_pay1 (k0_pay8 x w s s' acc) := by
  unfold sout0_B_0
  rw [View.read_writes_eq_canon _ _ _ (scover0_B_0 c i a1 h1 a2 h2 a3 h3 a4 h4 a5 h5 a6 h6 hc0 hc1 x s s' w acc)]
  unfold kernelRun0_B
  dsimp only
  sl_unfold_words
  rw [View.canon_unit_zero (S := S64x128) off2]
  simp only [View.readAt_eq_ld, h1.read_unread, h2.read_unread, h3.read_unread, h4.read_unread, h6.read_unread,
    View.ld_unit_zero (S := S10000x128) off2, View.ld_unit_zero (S := S1x1x10000) off3,
    View.ld_unit_zero (S := S10000x1) off2, View.ld_unit_zero (S := S128x128) off2, View.ld_unit_zero (S := S64x128) off2]

/-- The finishing payload of an accumulated block: the products of columns, kept by the column number modulo 8. -/
def finish (v : Vec F S64x128 .f32) : FVec F S64x128 .f32 :=
  k0_pay6 v (k0_pay2 v) (k0_pay3 v) (k0_pay4 v) (k0_pay5 v)

/-- At the last point the output block ends at the finishing payload of the accumulated block. -/
theorem block_C (hc0 : ¬cond0_0 i) (hc1 : cond0_1 i) :
    out0_C_4 c i a1 h1 a2 h2 a3 h3 a4 h4 a5 h5 a6 h6 hc0 hc1 x s s' w acc = finish (k0_pay1 (k0_pay8 x w s s' acc)) := by
  unfold out0_C_4
  rw [View.read_writes_eq_canon _ _ _ (cover0_C_4 c i a1 h1 a2 h2 a3 h3 a4 h4 a5 h5 a6 h6 hc0 hc1 x s s' w acc)]
  unfold kernelRun0_C
  dsimp only
  sl_unfold_words
  rw [View.canon_unit_zero (S := S64x128) off2]
  simp only [View.readCov_unit_zero (S := S64x128) _ off2, View.readAt_eq_ld, h1.read_unread, h2.read_unread, h3.read_unread, h4.read_unread, h6.read_unread,
    View.ld_unit_zero (S := S10000x128) off2, View.ld_unit_zero (S := S1x1x10000) off3,
    View.ld_unit_zero (S := S10000x1) off2, View.ld_unit_zero (S := S128x128) off2, View.ld_unit_zero (S := S64x128) off2]
  rfl

end Cases

variable (m : (ℓ : Loc nD τ sig) → Buf (Elt F) ℓ) (ρ : Dev nD → PrngReg)

/-- The accumulator after point `n`: the payload of the point's blocks over the accumulator after the point before, over
    zeros at the first point. -/
def chain (c : Dev nD) : (n : ℕ) → n < cfg0.N → Vec F S64x128 .f32
  | 0, h => k0_pay1 (k0_pay8 (iblk m c 0 ⟨0, h⟩) (iblk m c 3 ⟨0, h⟩) (iblk m c 1 ⟨0, h⟩) (iblk m c 2 ⟨0, h⟩) k0_pay7)
  | n + 1, h => k0_pay1 (k0_pay8 (iblk m c 0 ⟨n + 1, h⟩) (iblk m c 3 ⟨n + 1, h⟩) (iblk m c 1 ⟨n + 1, h⟩) (iblk m c 2 ⟨n + 1, h⟩)
      (chain c n (Nat.lt_of_succ_lt h)))

/-- What the scratch holds after a point before the last is `chain`. -/
theorem scratch_eq (c : Dev nD) : ∀ (n : ℕ) (h : n < cfg0.N), n < 9 → (outsAt0 m c n h).2 = chain m c n h
  | 0, h, _ => by
    rw [outsAt0_A m c ⟨0, h⟩ (by dsimp only) (by dsimp only; omega)]
    dsimp only
    rw [scratch_A]
    rfl
  | n + 1, h, h9 => by
    rw [outsAt0_B m c ⟨n + 1, h⟩ (by dsimp only; omega) (by dsimp only; omega)]
    dsimp only
    rw [scratch_B]
    simp only [Nat.add_sub_cancel]
    rw [scratch_eq c n (Nat.lt_of_succ_lt h) (by omega)]
    rfl

theorem nine : 9 < cfg0.N := by rw [show cfg0.N = 10 from N_0]; decide

/-- The output array of the region: the finishing payload of the accumulator after the last point. -/
abbrev region (c : Dev nD) : Buf (Elt F) ((c : Thread nD τ).loc main_v5) := finish (chain m c 9 nine)

/-- What the last point leaves in the output block. -/
theorem block_eq (c : Dev nD) : (outsAt0 m c 9 nine).1 = region m c := by
  rw [outsAt0_C m c ⟨9, nine⟩ (by decide) (by decide)]
  dsimp only
  rw [block_C]
  simp only [Nat.reduceSub]
  rw [scratch_eq m c 8 _ (by decide)]
  rfl

/-- The one write-back, at the last point, writes the finished block over the whole array. -/
theorem flushed_eq (c : Dev nD) (t : Fin cfg0.N) (hf : (cfg0.win 4).flush t = true) :
    (dats m 0 c).flushed 4 t = ((cfg0.win 4).blk t).view.read (Elt F) (region m c) := by
  have hN : cfg0.N = 10 := N_0
  have h9 : t.val = 9 := by have := (flush0_4 t).mp hf; have := t.isLt; omega
  obtain rfl : t = ⟨9, nine⟩ := Fin.ext h9
  show (cfg0.win 4).cut (grid0.coords ⟨9, nine⟩) ((dats m 0 c).after 4 ⟨9, nine⟩) = _
  rw [after0_4, block_eq]
  have hz : (fun a => win0_4.index ⟨9, nine⟩ a * main_v5.ty.shape.size a) = fun _ => 0 := funext fun a => by
    fin_cases a <;> decide
  exact (Memref.read_access_unit_zero (Elt F) main_v5 hz (fun a => by rw [congrFun hz a]; simp) (region m c)).symm

/-- So the region's array ends at the finished block. -/
theorem array_eq (c : Dev nD) : (dats m 0 c).arrAt 4 cfg0.N = region m c :=
  (dats m 0 c).arrAt_eq_of_cover 4 (region m c) (flushed_eq m c) fun i =>
    ⟨⟨9, nine⟩, (flush0_4 ⟨9, nine⟩).mpr rfl, by
      show i ∈ ((View.whole main_v5).slice (win0_4.rect ⟨9, nine⟩)).set
      rw [View.set_slice_whole, Rect.mem_set_unit]
      intro a
      have hi : win0_4.index ⟨9, nine⟩ a * win0_4.size a = 0 := by fin_cases a <;> decide
      have hs : win0_4.xsize (grid0.coords ⟨9, nine⟩) a = main_v5.ty.shape.size a := by fin_cases a <;> decide
      show win0_4.index ⟨9, nine⟩ a * win0_4.size a ≤ (i a : Nat)
        ∧ (i a : Nat) < win0_4.index ⟨9, nine⟩ a * win0_4.size a + win0_4.xsize (grid0.coords ⟨9, nine⟩) a
      rw [hi, hs, Nat.zero_add]
      exact ⟨Nat.zero_le _, (i a).isLt⟩⟩

/-- The kernel's result: the region's array reshaped to one row per segment. -/
abbrev result (c : Dev nD) : Buf (Elt F) ((c : Thread nD τ).loc main_v6) :=
  shapeCast S1024x8 (region m c : Vec F S64x128 .f32) shapeCasts_S64x128_S1024x8

/-- The reshape after the region writes the result from the region's array. -/
theorem tail_eq (c : Dev nD) : Pipeline.afterTail₀ cfgs (dats m) 0 (V0 m) [hostOps1] c main_v6 = result m c := by
  unfold Pipeline.afterTail₀
  simp only [hostOps1, List.flatten_cons, List.flatten_nil, List.append_nil]
  after_results
  exact congrArg (fun v : Vec F S64x128 .f32 => shapeCast S1024x8 v shapeCasts_S64x128_S1024x8)
    ((Pipeline.withArrays_arr spec0 (by decide) c (V0 m c) (fun w => (dats m 0 c).arrAt w cfg0.N) 4).trans (array_eq m c))

/-- The run of the kernel: the result buffer ends at `result`, the arguments as they were. -/
theorem run : θ_run defs (onTc (τ := τ) (main (F := F))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Seg
-- ==== Proof.Blocks.lean ====
/- What the kernel's input blocks hold, in terms of the arguments: point `t`'s block of rows is rows `10000 t …` of `x`,
   its two blocks of segment numbers are entries `10000 t …` of the segment numbers, and the one block of weights is `W`
   with its eight columns repeated sixteen times. -/
module

public import proofs.«01_k».proof.Proof.Points
public import Idealize.ShloMosaic.Lib.Pointwise

@[expose] public section

noncomputable section

namespace Cert.Seg

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The rows argument, the segment numbers and the weights, as functions of their indices. -/
abbrev argX (c : Dev nD) : Vec F S100000x128 .f32 := m ((c : Thread nD τ).loc main_arg0)
abbrev argS (c : Dev nD) : Vec F S100000 .i32 := m ((c : Thread nD τ).loc main_arg1)
abbrev argW (c : Dev nD) : Vec F S128x8 .f32 := m ((c : Thread nD τ).loc main_arg2)

/-- The row of `x` that row `r` of point `t`'s block is. -/
abbrev row (t : Fin 10) (r : Fin 10000) : Fin 100000 := ⟨10000 * t.val + r.val, by omega⟩

/-- The weights block: `W` with its eight columns repeated sixteen times. -/
theorem weights (c : Dev nD) : V m c main_v2
    = shapeCast S128x128 (broadcastInDim S1x128x16x8 ![0, 1, 2, 3] bcast_S1x128x1x8_S1x128x16x8_0_1_2_3
        (shapeCast S1x128x1x8 (argW m c) shapeCasts_S128x8_S1x128x1x8)) shapeCasts_S1x128x16x8_S128x128 := by
  show StableHlo.after (List.flatten [hostOps0]) (fun b => m (c, b)) _ = _
  simp only [hostOps0, List.flatten_cons, List.flatten_nil, List.append_nil]
  after_results
  rfl

/-- The segment numbers as ten rows of 10000. -/
theorem segRows (c : Dev nD) : V m c main_v3 = shapeCast S10x1x10000 (argS m c) shapeCasts_S100000_S10x1x10000 := by
  show StableHlo.after (List.flatten [hostOps0]) (fun b => m (c, b)) _ = _
  simp only [hostOps0, List.flatten_cons, List.flatten_nil, List.append_nil]
  after_results
  rfl

/-- The segment numbers as one column. -/
theorem segCol (c : Dev nD) : V m c main_v4 = shapeCast S100000x1 (argS m c) shapeCasts_S100000_S100000x1 := by
  show StableHlo.after (List.flatten [hostOps0]) (fun b => m (c, b)) _ = _
  simp only [hostOps0, List.flatten_cons, List.flatten_nil, List.append_nil]
  after_results
  rfl

/-- A point of the grid as a number below 10. -/
abbrev pt (t : Fin 10) : Fin cfg0.N := t.cast (show 10 = cfg0.N from N_0.symm)

theorem index0 : ∀ t : Fin grid0.N, win0_0.index t 0 = t.val ∧ win0_0.index t 1 = 0 := by decide +kernel
theorem index1 : ∀ t : Fin grid0.N, win0_1.index t 0 = t.val ∧ win0_1.index t 1 = 0 ∧ win0_1.index t 2 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel

/-- Row `r` of point `t`'s block of rows. -/
theorem block_x (c : Dev nD) (t : Fin 10) (r : Fin 10000) (k : Fin 128) :
    (iblk m c 0 (pt t) : Vec F S10000x128 .f32) (ix2 r k) = argX m c (ix2 (row t r) k) := by
  unfold iblk
  rw [View.read_apply]
  show V m c main_arg0 _ = _
  rw [V_main_arg0]
  refine congrArg (argX m c) (funext fun a => Fin.ext ?_)
  match a with
  | ⟨0, _⟩ => show win0_0.index (pt t) 0 * 10000 + 1 * r.val = 10000 * t.val + r.val
              rw [(index0 (pt t)).1]; show t.val * 10000 + 1 * r.val = _; omega
  | ⟨1, _⟩ => show win0_0.index (pt t) 1 * 128 + 1 * k.val = k.val
              rw [(index0 (pt t)).2]; omega

/-- Entry `n` of point `t`'s row of segment numbers. -/
theorem block_s (c : Dev nD) (t : Fin 10) (n : Fin 10000) :
    (iblk m c 1 (pt t) : Vec F S1x1x10000 .i32) (ix3 0 0 n) = argS m c (ix1 (row t n)) := by
  unfold iblk
  rw [View.read_apply]
  show V m c main_v3 _ = _
  rw [segRows]
  trans shapeCast S10x1x10000 (argS m c) shapeCasts_S100000_S10x1x10000 (ix3 t 0 n)
  · refine congrArg (shapeCast S10x1x10000 (argS m c) shapeCasts_S100000_S10x1x10000) (funext fun a => Fin.ext ?_)
    match a with
    | ⟨0, _⟩ => show win0_1.index (pt t) 0 * 1 + 1 * 0 = t.val
                rw [(index1 (pt t)).1]; show t.val * 1 + 1 * 0 = _; omega
    | ⟨1, _⟩ => show win0_1.index (pt t) 1 * 1 + 1 * 0 = 0
                rw [(index1 (pt t)).2.1]
    | ⟨2, _⟩ => show win0_1.index (pt t) 2 * 10000 + 1 * n.val = n.val
                rw [(index1 (pt t)).2.2]; omega
  · pointwise
    refine congrArg (argS m c) (congrArg ix1 (Fin.ext ?_))
    show t.val * 10000 + n.val = 10000 * t.val + n.val
    omega

/-- Entry `n` of point `t`'s column of segment numbers. -/
theorem block_s' (c : Dev nD) (t : Fin 10) (n : Fin 10000) :
    (iblk m c 2 (pt t) : Vec F S10000x1 .i32) (ix2 n 0) = argS m c (ix1 (row t n)) := by
  unfold iblk
  rw [View.read_apply]
  show V m c main_v4 _ = _
  rw [segCol]
  trans shapeCast S100000x1 (argS m c) shapeCasts_S100000_S100000x1 (ix2 (row t n) 0)
  · refine congrArg (shapeCast S100000x1 (argS m c) shapeCasts_S100000_S100000x1) (funext fun a => Fin.ext ?_)
    match a with
    | ⟨0, _⟩ => show win0_2.index (pt t) 0 * 10000 + 1 * n.val = 10000 * t.val + n.val
                rw [(index2 (pt t)).1]; show t.val * 10000 + 1 * n.val = _; omega
    | ⟨1, _⟩ => show win0_2.index (pt t) 1 * 1 + 1 * 0 = 0
                rw [(index2 (pt t)).2]
  · pointwise

/-- Reshaping, repeating and reshaping back puts column `l % 8` at lane `l`. -/
theorem tile_apply (w : Vec F S128x8 .f32) (k l : Fin 128) :
    shapeCast S128x128 (broadcastInDim S1x128x16x8 ![0, 1, 2, 3] bcast_S1x128x1x8_S1x128x16x8_0_1_2_3
        (shapeCast S1x128x1x8 w shapeCasts_S128x8_S1x128x1x8)) shapeCasts_S1x128x16x8_S128x128 (ix2 k l)
      = w (ix2 k ⟨l.val % 8, by omega⟩) := by
  pointwise

/-- Lane `l` of the weights block is column `l % 8` of `W`. -/
theorem block_w (c : Dev nD) (t : Fin 10) (k l : Fin 128) :
    (iblk m c 3 (pt t) : Vec F S128x128 .f32) (ix2 k l) = argW m c (ix2 k ⟨l.val % 8, by omega⟩) := by
  unfold iblk
  rw [View.read_apply]
  show V m c main_v2 _ = _
  trans (V m c main_v2 : Vec F S128x128 .f32) (ix2 k l)
  · refine congrArg (V m c main_v2) (funext fun a => Fin.ext ?_)
    match a with
    | ⟨0, _⟩ => show win0_3.index (pt t) 0 * 128 + 1 * k.val = k.val
                rw [(index3 (pt t)).1]; omega
    | ⟨1, _⟩ => show win0_3.index (pt t) 1 * 128 + 1 * l.val = l.val
                rw [(index3 (pt t)).2]; omega
  · rw [weights]
    exact tile_apply _ k l

end Cert.Seg
-- ==== Proof.Pay8.lean ====
/- The accumulation payload of the kernel body read at one entry over the extended reals: the accumulator plus, over the
   rows of the block, the products of the rows whose segment number is the one that the entry stands for. -/
module

public import proofs.«01_k».proof.Proof.Gen.KernelIdeal.Skeleton
public import Idealize.ShloMosaic.Lib.Pointwise

@[expose] public section

noncomputable section

namespace Cert.Seg

open Cert.KernelIdeal Cert.KernelIdeal.Gen Idealize.ShloMosaic

/-- For a segment number below 1024, the arithmetic shift right by 4 cut to 16 bits is the number divided by 16. -/
theorem high_word : ∀ k : Fin 1024,
    BitVec.setWidth 16 (IntOp.shrsi ArithUnit.vector (BitVec.ofNat 32 k.val) 4#32) = BitVec.ofNat 16 (k.val / 16) := by
  decide +kernel

/-- For a segment number below 1024, the low four bits are the number modulo 16. -/
theorem low_word : ∀ k : Fin 1024, IntOp.andi (BitVec.ofNat 32 k.val) 15#32 = BitVec.ofNat 32 (k.val % 16) := by
  decide +kernel

/-- A lane number shifted right by 3 is the lane number divided by 8. -/
theorem lane_word : ∀ l : Fin 128, IntOp.shrsi ArithUnit.vector (BitVec.ofNat 32 l.val) 3#32 = BitVec.ofNat 32 (l.val / 8) := by
  decide +kernel

/-- Two small numbers written as words of the same width are equal words exactly when they are equal. -/
theorem cmpi_ofNat {w : Nat} (a b : Nat) (ha : a < 2 ^ w) (hb : b < 2 ^ w) :
    IntOp.cmpi CmpIPredicate.eq (BitVec.ofNat w a) (BitVec.ofNat w b) = if a = b then 1#1 else 0#1 := by
  by_cases h : a = b
  · subst h; simp [IntOp.cmpi]
  · have : BitVec.ofNat w a ≠ BitVec.ofNat w b := fun e => h (by
      have := congrArg BitVec.toNat e
      simpa [BitVec.toNat_ofNat, Nat.mod_eq_of_lt ha, Nat.mod_eq_of_lt hb] using this)
    rw [if_neg h]
    show BitVec.ofBool (BitVec.ofNat w a == BitVec.ofNat w b) = 0#1
    rw [beq_eq_false_iff_ne.2 this]; rfl

/-- The two masks of one row at one entry: for a segment number `k` below 1024 they are both set exactly when `k` is
    `16 p + l / 8`, the segment that entry `(p, l)` stands for. -/
theorem masks (k : ℕ) (hk : k < 1024) (p : Fin 64) (l : Fin 128) (v : EReal) :
    Scalar.select (IntOp.cmpi CmpIPredicate.eq (IntOp.andi (BitVec.ofNat 32 k) 15#32)
        (IntOp.shrsi ArithUnit.vector (BitVec.ofNat 32 l.val) 3#32))
      (Scalar.select (IntOp.cmpi CmpIPredicate.eq (BitVec.ofNat 16 p.val)
        (BitVec.setWidth 16 (IntOp.shrsi ArithUnit.vector (BitVec.ofNat 32 k) 4#32))) v 0) 0
      = if k = 16 * p.val + l.val / 8 then v else 0 := by
  have hp := p.isLt
  have hl := l.isLt
  have h1 := high_word ⟨k, hk⟩
  have h2 := low_word ⟨k, hk⟩
  simp only at h1 h2
  rw [h1, h2, lane_word, cmpi_ofNat _ _ (by omega) (by omega), cmpi_ofNat _ _ (by omega) (by omega)]
  by_cases a : k % 16 = l.val / 8
  · by_cases b : p.val = k / 16
    · rw [if_pos a, if_pos b, if_pos (by omega)]; rfl
    · rw [if_pos a, if_neg b, if_neg (by omega)]; rfl
  · rw [if_neg a, if_neg (c := k = 16 * p.val + l.val / 8) (by omega)]; rfl

/-- The accumulation payload at entry `(p, l)`, the block's segment numbers being the numbers `seg n` below 1024: the
    accumulator plus the products `x · w` at lane `l` of the rows whose segment is `16 p + l / 8`. -/
theorem pay8_apply (x : Vec Ideal S10000x128 .f32) (w : Vec Ideal S128x128 .f32) (s : Vec Ideal S1x1x10000 .i32)
    (s' : Vec Ideal S10000x1 .i32) (acc : Vec Ideal S64x128 .f32) (seg : Fin 10000 → ℕ) (hseg : ∀ n, seg n < 1024)
    (hs : ∀ n, s (ix3 0 0 n) = BitVec.ofNat 32 (seg n)) (hs' : ∀ n, s' (ix2 n 0) = BitVec.ofNat 32 (seg n))
    (p : Fin 64) (l : Fin 128) :
    k0_pay8 (F := Ideal) x w s s' acc (ix2 p l)
      = acc (ix2 p l) + ∑ n : Fin 10000, if seg n = 16 * p.val + l.val / 8 then
          ∑ k : Fin 128, x (ix2 n k) * w (ix2 k l) else 0 := by
  pointwise [k0_pay8]
  refine congrArg _ (Finset.sum_congr rfl fun n _ => ?_)
  rw [hs, hs']
  exact masks (seg n) (hseg n) p l _

/-- The first store of the body's scratch is zero at every entry. -/
theorem pay7_apply (j : S64x128.Idx) : k0_pay7 (F := Ideal) j = 0 := by
  pointwise [k0_pay7]

/-- The stored scratch is the accumulated block, unchanged by the cast around the store. -/
theorem pay1_eq (v : FVec Ideal S64x128 .f32) : k0_pay1 (F := Ideal) v = v := by
  funext j
  pointwise [k0_pay1]

end Cert.Seg
-- ==== Proof.Sum.lean ====
/- What the kernel's running sum holds after the last point: at row `p` and lane `l`, the sum over ALL rows of `x` whose
   segment number is `16 p + l / 8` of that row's product with column `l % 8` of `W`. -/
module

public import proofs.«01_k».proof.Proof.Blocks
public import proofs.«01_k».proof.Proof.Pay8

@[expose] public section

noncomputable section

namespace Cert.Seg

open Cert.KernelIdeal Cert.KernelIdeal.Gen
open Idealize.ShloMosaic Idealize.ShloMosaic.TcCoe Idealize.SL.Sem

/-- What one row gives to column `o` of segment `g`: its product with the column when it is in the segment, else zero. -/
def part (x : S100000x128.Idx → EReal) (s : S100000.Idx → BitVec 32) (w : S128x8.Idx → EReal) (g : ℕ) (o : Fin 8) (r : Fin 100000) : EReal :=
  if (s (ix1 r)).toNat = g then ∑ k : Fin 128, x (ix2 r k) * w (ix2 k o) else 0

/-- The segment sum: what all rows together give to column `o` of segment `g`. -/
def total (x : S100000x128.Idx → EReal) (s : S100000.Idx → BitVec 32) (w : S128x8.Idx → EReal) (g : ℕ) (o : Fin 8) : EReal :=
  ∑ r : Fin 100000, part x s w g o r

/-- Summing over ten blocks of ten thousand rows is summing over all rows. -/
theorem sum_rows (f : Fin 100000 → EReal) : ∑ t : Fin 10, ∑ n : Fin 10000, f (row t n) = ∑ r : Fin 100000, f r := by
  rw [← Fintype.sum_prod_type' (f := fun t n => f (row t n))]
  refine Fintype.sum_equiv (finProdFinEquiv.trans (finCongr (by norm_num))) _ _ fun q => congrArg f (Fin.ext ?_)
  show 10000 * q.1.val + q.2.val = q.2.val + 10000 * q.1.val
  omega

variable (m : (ℓ : Loc nD τ sig) → Buf (Elt Ideal) ℓ)

/-- What the rows of block `t` give, zero past the last block. -/
def blockPart (c : Dev nD) (g : ℕ) (o : Fin 8) (t : ℕ) : EReal :=
  if h : t < 10 then ∑ n : Fin 10000, part (argX m c) (argS m c) (argW m c) g o (row ⟨t, h⟩ n) else 0

/-- One point adds its block's rows to the running sum. -/
theorem step (c : Dev nD) (hs : ∀ r : Fin 100000, (argS m c (ix1 r)).toNat < 1024) (t : Fin 10)
    (u : Fin cfg0.N) (hu : u = pt t) (acc : Vec Ideal S64x128 .f32)
    (p : Fin 64) (l : Fin 128) :
    k0_pay8 (F := Ideal) (iblk m c 0 u) (iblk m c 3 u) (iblk m c 1 u) (iblk m c 2 u) acc (ix2 p l)
      = acc (ix2 p l) + blockPart m c (16 * p.val + l.val / 8) ⟨l.val % 8, by omega⟩ t.val := by
  subst hu
  rw [pay8_apply (seg := fun n => (argS m c (ix1 (row t n))).toNat) (hseg := fun n => hs _)
    (hs := fun n => by rw [block_s, BitVec.ofNat_toNat, BitVec.setWidth_eq])
    (hs' := fun n => by rw [block_s', BitVec.ofNat_toNat, BitVec.setWidth_eq])]
  unfold blockPart
  rw [dif_pos t.isLt]
  refine congrArg (acc (ix2 p l) + ·) (Finset.sum_congr rfl fun n _ => ?_)
  unfold part
  refine if_congr Iff.rfl (Finset.sum_congr rfl fun k _ => ?_) rfl
  rw [block_x, block_w]

/-- After point `n` the running sum holds what blocks 0 to `n` give. -/
theorem chain_apply (c : Dev nD) (hs : ∀ r : Fin 100000, (argS m c (ix1 r)).toNat < 1024) (p : Fin 64) (l : Fin 128) :
    ∀ (n : ℕ) (h : n < cfg0.N), chain m c n h (ix2 p l)
      = ∑ t ∈ Finset.range (n + 1), blockPart m c (16 * p.val + l.val / 8) ⟨l.val % 8, by omega⟩ t
  | 0, h => by
    have hn : cfg0.N = 10 := N_0
    rw [chain, pay1_eq]
    rw [step m c hs ⟨0, by omega⟩ ⟨0, h⟩ (Fin.ext rfl), pay7_apply, zero_add, Finset.sum_range_one]
  | n + 1, h => by
    have hn : cfg0.N = 10 := N_0
    rw [chain, pay1_eq]
    rw [step m c hs ⟨n + 1, by omega⟩ ⟨n + 1, h⟩ (Fin.ext rfl), chain_apply c hs p l n, ← Finset.sum_range_succ]

/-- After the last point the running sum holds the segment sums. -/
theorem chain_total (c : Dev nD) (hs : ∀ r : Fin 100000, (argS m c (ix1 r)).toNat < 1024) (p : Fin 64) (l : Fin 128) :
    chain m c 9 nine (ix2 p l)
      = total (argX m c) (argS m c) (argW m c) (16 * p.val + l.val / 8) ⟨l.val % 8, by omega⟩ := by
  rw [chain_apply m c hs, Finset.sum_range]
  unfold total
  rw [← sum_rows]
  refine Finset.sum_congr rfl fun t _ => ?_
  unfold blockPart
  rw [dif_pos t.isLt]

end Cert.Seg
-- ==== Proof.Fin.lean ====
/- The finishing payload of the kernel body read at one entry over the extended reals. -/
module

public import proofs.«01_k».proof.Proof.Points
public import Idealize.ShloMosaic.Lib.Pointwise

@[expose] public section

noncomputable section

namespace Cert.Seg

open Cert.KernelIdeal Cert.KernelIdeal.Gen Idealize.ShloMosaic

/-- The low three bits of a lane number are the lane number modulo 8. -/
theorem lane_low : ∀ l : Fin 128, IntOp.andi (BitVec.ofNat 32 l.val) 7#32 = BitVec.ofNat 32 (l.val % 8) := by
  decide +kernel

/-- The lane number `8 q + o`. -/
abbrev lane (q : Fin 16) (o : Fin 8) : Fin 128 := ⟨8 * q.val + o.val, by omega⟩

/-- The two selects on the lane number modulo 8, being the `if`s on it. -/
theorem select_low (o : Fin 8) (a b c : EReal) :
    Scalar.select (IntOp.cmpi CmpIPredicate.eq (BitVec.ofNat 32 o.val) 0#32) a
        (Scalar.select (IntOp.cmpi CmpIPredicate.eq (BitVec.ofNat 32 o.val) 1#32) b c)
      = if o.val = 0 then a else if o.val = 1 then b else c := by
  fin_cases o <;> rfl

/-- The finishing payload at lane `8 q + o`: the product of lanes `8 q` and `8 q + 1` for `o = 0`, zero minus that product
    for `o = 1`, and the entry itself for the other `o`. -/
theorem finish_apply (v : Vec Ideal S64x128 .f32) (p : Fin 64) (q : Fin 16) (o : Fin 8) :
    finish (F := Ideal) v (ix2 p (lane q o))
      = if o.val = 0 then v (ix2 p (lane q 0)) * v (ix2 p (lane q 1))
        else if o.val = 1 then 0 - v (ix2 p (lane q 0)) * v (ix2 p (lane q 1)) else v (ix2 p (lane q o)) := by
  have ho := o.isLt
  obtain ⟨l, hl⟩ : ∃ l : Fin 128, l = lane q o := ⟨_, rfl⟩
  have hv : l.val = 8 * q.val + o.val := by rw [hl]
  have h7 : IntOp.andi (BitVec.ofNat 32 l.val) 7#32 = BitVec.ofNat 32 o.val := by
    rw [lane_low, show l.val % 8 = o.val by omega]
  rw [← hl]
  pointwise [finish, k0_pay6, k0_pay2, k0_pay3, k0_pay4, k0_pay5]
  rw [h7]
  clear hl h7
  rw [select_low]
  have e : ∀ a b : Fin 128, a.val = 8 * q.val → b.val = 8 * q.val + 1 →
      v (ix2 p a) * v (ix2 p b) = v (ix2 p (lane q 0)) * v (ix2 p (lane q 1)) := fun a b ha hb => by
    rw [show a = lane q 0 from Fin.ext ha, show b = lane q 1 from Fin.ext hb]
  fin_vals q with hq
  all_goals
    simp only [hq] at hv
    repeat first | rw [dif_pos (by omega)] | rw [dif_neg (by omega)]
    rw [e _ _ (by rw [hq]; rfl) (by rw [hq]; rfl)]

end Cert.Seg
-- ==== Proof.Ref.lean ====
/- What the reference computes: its scatter adds row `r`'s product to the row of the result its segment number names, so
   at segment `g` and column `o` it holds the sum over the rows in segment `g`; the last operations combine columns 0
   and 1 of a segment. -/
module

public import proofs.«01_k».proof.Proof.Gen.ReferenceIdeal.Run
public import Idealize.ShloMosaic.Lib.Pointwise
public import Idealize.ShloMosaic.Lib.Routing.OpsPair

@[expose] public section

noncomputable section

namespace Cert.Ref

open Cert.ReferenceIdeal Cert.ReferenceIdeal.Gen
open Idealize.ShloMosaic Idealize.ShloMosaic.TcCoe Idealize.SL.Sem

/-- The reference's segment sums, before its last operations. -/
abbrev sums (x : FVec Ideal S100000x128 .f32) (s : IVec S100000 32) (w : FVec Ideal S128x8 .f32) : FVec Ideal S1024x8 .f32 :=
  Host.scatterAdd scatter_S1024x8_S100000x1_S100000x8_1_0_0_1 (broadcastInDim S1024x8 ![] bcast_S_S1024x8 (constant S_ .f32 0x00000000#32))
    (broadcastInDim S100000x1 ![0] bcast_S100000_S100000x1_0 s) (Host.dotGeneral dot_S100000x128_S128x8_S100000x8_1_0_0_1_n_n none x w)

/-- The scatter's start on the rows axis: the segment number of the update's row. -/
theorem start_row (idx : IVec S100000x1 32) (r : Fin 100000) (o : Fin 8) :
    scatter_S1024x8_S100000x1_S100000x8_1_0_0_1.start (ix2 r o) idx 0 = (idx (ix2 r 0)).toInt := by
  unfold ScatterDims.start
  rw [dif_pos (by decide)]
  refine congrArg (fun j => (idx j).toInt) (funext fun b => Fin.ext ?_)
  match b with
  | ⟨0, _⟩ => rfl
  | ⟨1, _⟩ => rfl

/-- The scatter's start on the columns axis is zero. -/
theorem start_col (idx : IVec S100000x1 32) (r : Fin 100000) (o : Fin 8) :
    scatter_S1024x8_S100000x1_S100000x8_1_0_0_1.start (ix2 r o) idx 1 = 0 := by
  unfold ScatterDims.start
  rw [dif_neg (by decide)]

/-- The scatter's window covers no rows axis. -/
theorem window_row (r : Fin 100000) (o : Fin 8) : scatter_S1024x8_S100000x1_S100000x8_1_0_0_1.window (ix2 r o) 0 = 0 := by
  unfold ScatterDims.window
  rw [dif_neg (by decide)]

/-- The scatter's window runs along the columns. -/
theorem window_col (r : Fin 100000) (o : Fin 8) : scatter_S1024x8_S100000x1_S100000x8_1_0_0_1.window (ix2 r o) 1 = o.val := by
  unfold ScatterDims.window
  rw [dif_pos (by decide)]
  rfl

/-- Update `(r, o')` lands at `(g, o)` exactly when row `r`'s segment number is `g` and the columns agree. -/
theorem lands (idx : IVec S100000x1 32) (r : Fin 100000) (o' : Fin 8) (g : Fin 1024) (o : Fin 8) :
    scatter_S1024x8_S100000x1_S100000x8_1_0_0_1.resultIdx? (ix2 r o') idx = some (ix2 g o)
      ↔ (idx (ix2 r 0)).toInt = g.val ∧ o' = o := by
  rw [Routing.resultIdx?_eq_some]
  constructor
  · intro h
    have h0 := h 0
    have h1 := h 1
    rw [start_row, window_row] at h0
    rw [start_col, window_col] at h1
    change _ = ((g.val : ℕ) : Int) at h0
    change _ = ((o.val : ℕ) : Int) at h1
    exact ⟨by omega, Fin.ext (by omega)⟩
  · rintro ⟨h, rfl⟩ a
    match a with
    | ⟨0, _⟩ => exact (congrArg₂ (fun (p : Int) (q : ℕ) => p + (q : Int)) (start_row idx r o') (window_row r o')).trans (by
        show _ = ((g.val : ℕ) : Int); simpa using h)
    | ⟨1, _⟩ => exact (congrArg₂ (fun (p : Int) (q : ℕ) => p + (q : Int)) (start_col idx r o') (window_col r o')).trans (by
        show _ = ((o'.val : ℕ) : Int); simp)

/-- A row and a column as an index of the products. -/
def pair : Fin 100000 × Fin 8 ≃ S100000x8.Idx where
  toFun q := ix2 q.1 q.2
  invFun j := (j 0, j 1)
  left_inv q := rfl
  right_inv j := funext fun a => match a with
    | ⟨0, _⟩ => rfl
    | ⟨1, _⟩ => rfl

/-- A small word reads the same signed and unsigned. -/
theorem toInt_eq (v : BitVec 32) (h : v.toNat < 1024) : v.toInt = (v.toNat : Int) := by
  rw [BitVec.toInt_eq_toNat_cond]
  omega

/-- The reference's segment sum at `(g, o)`. -/
theorem sums_apply (x : FVec Ideal S100000x128 .f32) (s : IVec S100000 32) (w : FVec Ideal S128x8 .f32)
    (hs : ∀ r : Fin 100000, (s (ix1 r)).toNat < 1024) (g : Fin 1024) (o : Fin 8) :
    sums x s w (ix2 g o) = ∑ r : Fin 100000, if (s (ix1 r)).toNat = g.val then ∑ k : Fin 128, x (ix2 r k) * w (ix2 k o) else 0 := by
  have hz : (broadcastInDim S1024x8 ![] bcast_S_S1024x8 (constant (F := Ideal) S_ .f32 0x00000000#32) : FVec Ideal S1024x8 .f32) (ix2 g o) = 0 := by
    pointwise
  have hd : ∀ (r : Fin 100000) (o' : Fin 8), (Host.dotGeneral (F := Ideal) dot_S100000x128_S128x8_S100000x8_1_0_0_1_n_n none x w : FVec Ideal S100000x8 .f32) (ix2 r o')
      = ∑ k : Fin 128, x (ix2 r k) * w (ix2 k o') := fun r o' => by
    pointwise
  have hi : ∀ r : Fin 100000, (broadcastInDim S100000x1 ![0] bcast_S100000_S100000x1_0 s : IVec S100000x1 32) (ix2 r 0) = s (ix1 r) := fun r => by
    pointwise
  show Ideal.hostScatterAdd _ _ _ _ (ix2 g o) = _
  unfold Ideal.hostScatterAdd
  rw [hz, zero_add, Finset.sum_filter]
  rw [← Equiv.sum_comp pair, Fintype.sum_prod_type]
  refine Finset.sum_congr rfl fun r _ => ?_
  trans ∑ o' : Fin 8, if o' = o then (if (s (ix1 r)).toNat = g.val then ∑ k : Fin 128, x (ix2 r k) * w (ix2 k o) else 0) else 0
  · refine Finset.sum_congr rfl fun o' _ => ?_
    rw [show pair (r, o') = ix2 r o' from rfl, hd]
    by_cases ho : o' = o
    · subst ho
      rw [if_pos rfl]
      refine if_congr ?_ rfl rfl
      rw [lands, hi, toInt_eq _ (hs r)]
      exact ⟨fun h => by have := h.1; omega, fun h => ⟨by omega, rfl⟩⟩
    · rw [if_neg ho, if_neg fun h => ho ((lands _ _ _ _ _).1 h).2]
  · rw [Finset.sum_ite_eq' Finset.univ o, if_pos (Finset.mem_univ o)]

/-- The reference's result as a function of its arguments. -/
abbrev value (x : FVec Ideal S100000x128 .f32) (s : IVec S100000 32) (w : FVec Ideal S128x8 .f32) : FVec Ideal S1024x8 .f32 :=
  concatenate S1024x8 1
    [⟨S1024x1, mulf (extractStridedSlice S1024x1 ![0, 0] (sums x s w) slices_S1024x8_S1024x1_0_0) (extractStridedSlice S1024x1 ![0, 1] (sums x s w) slices_S1024x8_S1024x1_0_1)⟩,
     ⟨S1024x1, mulf (Host.negf (extractStridedSlice S1024x1 ![0, 0] (sums x s w) slices_S1024x8_S1024x1_0_0)) (extractStridedSlice S1024x1 ![0, 1] (sums x s w) slices_S1024x8_S1024x1_0_1)⟩,
     ⟨S1024x6, extractStridedSlice S1024x6 ![0, 2] (sums x s w) slices_S1024x8_S1024x6_0_2⟩] concatenates_S1024x1_S1024x1_S1024x6_S1024x8_d1

/-- Columns of a matrix `u` combined: the first two columns' product, its negation, and the other six columns. -/
theorem combine (u : FVec Ideal S1024x8 .f32) (g : Fin 1024) (o : Fin 8) :
    concatenate S1024x8 1
      [⟨S1024x1, mulf (extractStridedSlice S1024x1 ![0, 0] u slices_S1024x8_S1024x1_0_0) (extractStridedSlice S1024x1 ![0, 1] u slices_S1024x8_S1024x1_0_1)⟩,
       ⟨S1024x1, mulf (Host.negf (extractStridedSlice S1024x1 ![0, 0] u slices_S1024x8_S1024x1_0_0)) (extractStridedSlice S1024x1 ![0, 1] u slices_S1024x8_S1024x1_0_1)⟩,
       ⟨S1024x6, extractStridedSlice S1024x6 ![0, 2] u slices_S1024x8_S1024x6_0_2⟩] concatenates_S1024x1_S1024x1_S1024x6_S1024x8_d1 (ix2 g o)
      = if o.val = 0 then u (ix2 g 0) * u (ix2 g 1) else if o.val = 1 then 0 - u (ix2 g 0) * u (ix2 g 1) else u (ix2 g o) := by
  pointwise
  by_cases h0 : o.val = 0
  · rw [dif_pos (by omega), if_pos h0]
    exact congrArg₂ (· * ·) (congrArg (fun j => u (ix2 g j)) (Fin.ext h0)) (congrArg (fun j => u (ix2 g j)) (Fin.ext (by show 1 + o.val = 1; omega)))
  · rw [dif_neg (by omega), if_neg h0]
    by_cases h1 : o.val = 1
    · rw [dif_pos (by omega), if_pos h1, zero_sub, ← neg_mul]
      exact congrArg₂ (fun p q => -p * q) (congrArg (fun j => u (ix2 g j)) (Fin.ext (by show o.val - 1 = 0; omega)))
        (congrArg (fun j => u (ix2 g j)) (Fin.ext (by show 1 + (o.val - 1) = 1; omega)))
    · rw [dif_neg (by omega), if_neg h1]
      exact congrArg (fun j => u (ix2 g j)) (Fin.ext (by show 2 + (o.val - 1 - 1) = o.val; omega))

end Cert.Ref
-- ==== Proof.Equal.lean ====
/- The kernel's result is the reference's, element by element, when every segment number is below 1024. -/
module

public import proofs.«01_k».proof.Proof.Sum
public import proofs.«01_k».proof.Proof.Fin
public import proofs.«01_k».proof.Proof.Ref
public import proofs.«01_k».proof.Proof.Gen.Pre_ids_in_range
public import Idealize.ShloMosaic.Lib.ReduceAll

@[expose] public section

noncomputable section

namespace Cert.Seg

open Cert.KernelIdeal Cert.KernelIdeal.Gen
open Idealize.ShloMosaic Idealize.ShloMosaic.TcCoe Idealize.SL.Sem

/-- The last reshape: segment `g` is row `g / 16`, group of lanes `g % 16`. -/
theorem unpack (v : Vec Ideal S64x128 .f32) (g : Fin 1024) (o : Fin 8) :
    shapeCast S1024x8 v shapeCasts_S64x128_S1024x8 (ix2 g o) = v (ix2 ⟨g.val / 16, by omega⟩ (lane ⟨g.val % 16, by omega⟩ o)) := by
  pointwise
  refine congrArg (fun l => v (ix2 ⟨g.val / 16, by omega⟩ l)) (Fin.ext ?_)
  show g.val % 16 * 8 + o.val = 8 * (g.val % 16) + o.val
  omega

variable (m : (ℓ : Loc nD τ sig) → Buf (Elt Ideal) ℓ)

/-- The running sum at segment `g`'s row and lanes is the segment sum. -/
theorem chain_at (c : Dev nD) (hs : ∀ r : Fin 100000, (argS m c (ix1 r)).toNat < 1024) (g : Fin 1024) (o : Fin 8) :
    chain m c 9 nine (ix2 ⟨g.val / 16, by omega⟩ (lane ⟨g.val % 16, by omega⟩ o)) = total (argX m c) (argS m c) (argW m c) g.val o := by
  rw [chain_total m c hs]
  refine congrArg₂ (total (argX m c) (argS m c) (argW m c)) ?_ (Fin.ext ?_)
  · show 16 * (g.val / 16) + (8 * (g.val % 16) + o.val) / 8 = g.val
    omega
  · show (8 * (g.val % 16) + o.val) % 8 = o.val
    omega

/-- The kernel's result at segment `g` and column `o`, from the segment sums. -/
theorem result_apply (c : Dev nD) (hs : ∀ r : Fin 100000, (argS m c (ix1 r)).toNat < 1024) (g : Fin 1024) (o : Fin 8) :
    (result m c : Vec Ideal S1024x8 .f32) (ix2 g o)
      = if o.val = 0 then total (argX m c) (argS m c) (argW m c) g.val 0 * total (argX m c) (argS m c) (argW m c) g.val 1
        else if o.val = 1 then 0 - total (argX m c) (argS m c) (argW m c) g.val 0 * total (argX m c) (argS m c) (argW m c) g.val 1
        else total (argX m c) (argS m c) (argW m c) g.val o := by
  refine (unpack _ g o).trans ?_
  show finish (F := Ideal) (chain m c 9 nine) _ = _
  rw [finish_apply, chain_at m c hs, chain_at m c hs, chain_at m c hs]

/-- The kernel's result is the reference's result on the same arguments. -/
theorem result_eq (c : Dev nD) (hs : ∀ r : Fin 100000, (argS m c (ix1 r)).toNat < 1024) :
    (result m c : Vec Ideal S1024x8 .f32) = Cert.Ref.value (argX m c) (argS m c) (argW m c) := by
  have hr : ∀ (g : Fin 1024) (o : Fin 8), Cert.Ref.sums (argX m c) (argS m c) (argW m c) (ix2 g o)
      = total (argX m c) (argS m c) (argW m c) g.val o := fun g o => Cert.Ref.sums_apply _ _ _ hs g o
  have hp : ∀ (g : Fin 1024) (o : Fin 8), (result m c : Vec Ideal S1024x8 .f32) (ix2 g o)
      = Cert.Ref.value (argX m c) (argS m c) (argW m c) (ix2 g o) := fun g o => by
    refine (result_apply m c hs g o).trans ((Cert.Ref.combine (Cert.Ref.sums (argX m c) (argS m c) (argW m c)) g o).trans ?_).symm
    rw [hr, hr, hr]
  refine funext fun (j : S1024x8.Idx) => ?_
  have hj : j = ix2 (j 0) (j 1) := funext fun a => match a with
    | ⟨0, _⟩ => rfl
    | ⟨1, _⟩ => rfl
  exact hj ▸ hp (j 0) (j 1)

/-- A word that is not negative and below 1024, read signed, is below 1024 read unsigned. -/
theorem small (v : BitVec 32) (h0 : IntOp.cmpi .sge v 0#32 = 1#1) (h1 : IntOp.cmpi .slt v 1024#32 = 1#1) : v.toNat < 1024 := by
  have h0' : BitVec.ofBool (decide ((0#32).toInt ≤ v.toInt)) = 1#1 := h0
  have h1' : BitVec.ofBool (decide (v.toInt < (1024#32).toInt)) = 1#1 := h1
  rw [show (0#32).toInt = 0 by decide] at h0'
  rw [show (1024#32).toInt = 1024 by decide] at h1'
  have p0 : 0 ≤ v.toInt := by
    by_contra hn
    rw [decide_eq_false hn] at h0'
    exact absurd h0' (by decide)
  have p1 : v.toInt < 1024 := by
    by_contra hn
    rw [decide_eq_false hn] at h1'
    exact absurd h1' (by decide)
  rw [BitVec.toInt_eq_toNat_cond] at p0 p1
  have := v.isLt
  split at p0 <;> omega

/-- The precondition says that every segment number is below 1024. -/
theorem ids (x : FVec Ideal Cert.Pre_ids_in_range.S100000x128 .f32) (s : IVec Cert.Pre_ids_in_range.S100000 32)
    (w : FVec Ideal Cert.Pre_ids_in_range.S128x8 .f32)
    (h : Cert.Pre_ids_in_range.fn (F := Ideal) x s w (fun a => a.elim0) = 1#1) (r : Fin 100000) : (s (ix1 r)).toNat < 1024 := by
  obtain ⟨h0, h1⟩ := IntOp.andi_eq_one.1 h
  haveI : Subsingleton Cert.Pre_ids_in_range.S_.Idx := ⟨fun _ _ => funext fun a => a.elim0⟩
  exact small _ (Host.reduce_andi_all _ _ _ _ _ h0 (ix1 r)) (Host.reduce_andi_all _ _ _ _ _ h1 (ix1 r))

end Cert.Seg
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ids_in_range
public import proofs.«01_k».proof.Proof.Equal
public import Idealize.ShloMosaic.Adequacy
public import Idealize.ShloMosaic.Init

@[expose] public section

noncomputable section

namespace Cert.Proof

open Idealize.ShloMosaic Idealize.SL.Sem

/-- The reference ends with its arguments unchanged and, having no counters, with every counter at zero. -/
theorem refFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Value.run (F := Ideal) m g)

/-- The kernel and the reference end with equal results when every segment number is in range. -/
theorem algebraic : Cert.algebraic_KernelIdeal_ReferenceIdeal_pre_ids_in_range := by
  intro m g m' g' hpre hargs
  refine ⟨fun c => Cert.Seg.result m c, Cert.Seg.run m g, (θ_run _ _ _).mono (fun r h c => ⟨(h c).1.trans ?_, (h c).2⟩) (Cert.ReferenceIdeal.Value.run (F := Ideal) m' g')⟩
  obtain ⟨h0, h1, h2⟩ := hargs c
  rw [h0, h1, h2]
  exact (Cert.Seg.result_eq m c fun r => Cert.Seg.ids _ _ _ (congrFun (hpre c) _) r).symm

/-- Every claim of the certificate. -/
theorem claim : Cert.Claim :=
  ⟨Cert.Kernel.Gen.facts, Cert.KernelIdeal.Gen.facts, Cert.ReferenceIdeal.Gen.facts, Cert.Pre_ids_in_range.Gen.facts,
    fun m g _ => Cert.Kernel.Gen.frame m g, fun m g _ => Cert.KernelIdeal.Gen.frame m g, fun m g _ => Cert.KernelIdeal.Gen.frame m g,
    fun m g _ => refFrame m g, fun m g _ => refFrame m g, trivial, algebraic⟩

end Cert.Proof

end
